-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x32x32 : Shape := ⟨3, ![16384, 32, 32]⟩
abbrev S32x32x16384 : Shape := ⟨3, ![32, 32, 16384]⟩
abbrev S16384 : Shape := ⟨1, ![16384]⟩
abbrev S32x32x512 : Shape := ⟨3, ![32, 32, 512]⟩
abbrev S512 : Shape := ⟨1, ![512]⟩
abbrev S1x512 : Shape := ⟨2, ![1, 512]⟩
abbrev S1x32x512 : Shape := ⟨3, ![1, 32, 512]⟩
abbrev S32x512 : Shape := ⟨2, ![32, 512]⟩
abbrev S31x512 : Shape := ⟨2, ![31, 512]⟩

abbrev nBuf : Space → Nat
  | .hbm => 3
  | .vmem => 4
  | .smem => 0
  | _ => 0

abbrev bufTy : (tb : Table) → Fin (tcTables nBuf tb) → BufTy
  | .hbm, ⟨0, _⟩ => ⟨S16384x32x32, .f32⟩
  | .hbm, ⟨1, _⟩ => ⟨S32x32x16384, .f32⟩
  | .hbm, ⟨2, _⟩ => ⟨S16384, .f32⟩
  | .local _ .vmem, ⟨0, _⟩ => ⟨S32x32x512, .f32⟩
  | .local _ .vmem, ⟨1, _⟩ => ⟨S32x32x512, .f32⟩
  | .local _ .vmem, ⟨2, _⟩ => ⟨S512, .f32⟩
  | .local _ .vmem, ⟨3, _⟩ => ⟨S512, .f32⟩
  | _, _ => ⟨S16384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S16384x32x32 : Shape := ⟨3, ![16384, 32, 32]⟩
abbrev S_ : Shape := ⟨0, ![]⟩
abbrev S16384x1x32 : Shape := ⟨3, ![16384, 1, 32]⟩
abbrev S16384x32 : Shape := ⟨2, ![16384, 32]⟩
abbrev S16384x31x32 : Shape := ⟨3, ![16384, 31, 32]⟩
abbrev S31x16384x32 : Shape := ⟨3, ![31, 16384, 32]⟩
abbrev S1x16384x32 : Shape := ⟨3, ![1, 16384, 32]⟩
abbrev S16384x1 : Shape := ⟨2, ![16384, 1]⟩
abbrev S16384x31 : Shape := ⟨2, ![16384, 31]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x32x32, .f32⟩
  | .hbm, ⟨1, _⟩ => ⟨S_, .f32⟩
  | .hbm, ⟨2, _⟩ => ⟨S16384x32x32, .f32⟩
  | .hbm, ⟨3, _⟩ => ⟨S16384x32x32, .f32⟩
  | .hbm, ⟨4, _⟩ => ⟨S16384x32x32, .f32⟩
  | .hbm, ⟨5, _⟩ => ⟨S16384x32x32, .f32⟩
  | .hbm, ⟨6, _⟩ => ⟨S16384x32x32, .i1⟩
  | .hbm, ⟨7, _⟩ => ⟨S16384x32x32, .f32⟩
  | .hbm, ⟨8, _⟩ => ⟨S16384x32x32, .f32⟩
  | .hbm, ⟨9, _⟩ => ⟨S16384x32x32, .f32⟩
  | .hbm, ⟨10, _⟩ => ⟨S16384x32x32, .f32⟩
  | .hbm, ⟨11, _⟩ => ⟨S16384x32x32, .f32⟩
  | .hbm, ⟨12, _⟩ => ⟨S16384x32x32, .f32⟩
  | .hbm, ⟨13, _⟩ => ⟨S16384x32x32, .f32⟩
  | .hbm, ⟨14, _⟩ => ⟨S16384x32x32, .f32⟩
  | .hbm, ⟨15, _⟩ => ⟨S16384x1x32, .f32⟩
  | .hbm, ⟨16, _⟩ => ⟨S16384x32, .f32⟩
  | .hbm, ⟨17, _⟩ => ⟨S16384x31x32, .f32⟩
  | .hbm, ⟨18, _⟩ => ⟨S31x16384x32, .f32⟩
  | .hbm, ⟨19, _⟩ => ⟨S_, .i32⟩
  | .hbm, ⟨20, _⟩ => ⟨S31x16384x32, .f32⟩
  | .hbm, ⟨21, _⟩ => ⟨S_, .i32⟩
  | .hbm, ⟨22, _⟩ => ⟨S16384x32, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x16384x32, .f32⟩
  | .hbm, ⟨28, _⟩ => ⟨S16384x32, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x31, .f32⟩
  | .hbm, ⟨33, _⟩ => ⟨S16384x32, .f32⟩
  | .hbm, ⟨34, _⟩ => ⟨S16384x31, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S_, .i32⟩
  | .hbm, ⟨40, _⟩ => ⟨S_, .i32⟩
  | .hbm, ⟨41, _⟩ => ⟨S_, .f32⟩
  | .hbm, ⟨42, _⟩ => ⟨S16384, .f32⟩
  | _, _ => ⟨S16384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_while0c_c_2 : Ref sig .tc := ⟨.hbm, 23, rfl⟩
abbrev main_while0c_v7 : Ref sig .tc := ⟨.hbm, 24, rfl⟩
abbrev main_while0b_call1_c : Ref sig .tc := ⟨.hbm, 25, rfl⟩
abbrev main_while0b_call1_c_0 : Ref sig .tc := ⟨.hbm, 26, rfl⟩
abbrev main_while0b_call1_v0 : Ref sig .tc := ⟨.hbm, 27, rfl⟩
abbrev main_while0b_v7 : Ref sig .tc := ⟨.hbm, 28, rfl⟩
abbrev main_while0b_v8 : Ref sig .tc := ⟨.hbm, 29, rfl⟩
abbrev main_while0b_cst_2 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_c_3 : Ref sig .tc := ⟨.hbm, 39, rfl⟩
abbrev main_while0b_v17 : Ref sig .tc := ⟨.hbm, 40, rfl⟩
abbrev main_cst : Ref sig .tc := ⟨.hbm, 41, rfl⟩
abbrev main_v6 : Ref sig .tc := ⟨.hbm, 42, rfl⟩

abbrev nD : Nat := 1
abbrev τ : Topo := Topo.v7x

variable {F : FTy → Type} [FloatOps F]

abbrev main_while0_count : Scf.Loop 32 := ⟨0#32, 31#32, 1#32⟩
-- ==== Proof.Steps.lean ====
/-
  The kernel's row loop as a recursion on vectors, at any float values: the body's values, cut where the program is
  printed in parts, are the steps of one recursion.
-/
module

public import proofs.«01_k».proof.Proof.Gen.KernelIdeal.Frame
public import Idealize.ShloMosaic.Lib.Pipeline.Value

@[expose] public section

noncomputable section

namespace Cert.KernelIdeal.Steps

open Idealize.ShloMosaic Idealize.SL.Sem
open Cert.KernelIdeal Cert.KernelIdeal.Gen

variable {F : FTy → Type} [FloatOps F] [Named F]

/-- A row of infinities. -/
def inf : FVec F S1x512 .f32 := broadcast S1x512 (Scalar.ofBits .f32 0x7F800000#32)

/-- The row moved one place down, an infinity coming in at the top. -/
def up (d : FVec F S32x512 .f32) : FVec F S32x512 .f32 :=
  concatenate S32x512 0 [⟨S1x512, inf (F := F)⟩, ⟨S31x512, extractStridedSlice S31x512 ![0, 0] d slices_S32x512_o0_0_S31x512⟩]
    concatenates_S1x512_S31x512_S32x512_d0

/-- The row moved one place up, an infinity coming in at the bottom. -/
def down (d : FVec F S32x512 .f32) : FVec F S32x512 .f32 :=
  concatenate S32x512 0 [⟨S31x512, extractStridedSlice S31x512 ![1, 0] d slices_S32x512_o1_0_S31x512⟩, ⟨S1x512, inf (F := F)⟩]
    concatenates_S31x512_S1x512_S32x512_d0

/-- The kernel's softplus of one loaded row. -/
def theta (v : Vec F S1x32x512 .f32) : FVec F S32x512 .f32 :=
  addf (maximumf (shapeCast S32x512 v shapeCasts_S1x32x512_S32x512) (broadcast S32x512 (Scalar.ofBits .f32 0x00000000#32)))
    (mulf (mulf (log (addf (broadcast S32x512 (Scalar.ofBits .f32 0x3F800000#32))
        (exp2 (mulf (absf (shapeCast S32x512 v shapeCasts_S1x32x512_S32x512))
          (broadcast S32x512 (Named.named κ "neg_log2e" 0xBFB8AA3B#32))))))
        (broadcast S32x512 (Named.named κ "log2e" 0x3FB8AA3B#32)))
      (broadcast S32x512 (Named.named κ "ln2" 0x3F317218#32)))

/-- One row of the recursion. -/
def next (d : FVec F S32x512 .f32) (v : Vec F S1x32x512 .f32) : FVec F S32x512 .f32 :=
  addf (theta v) (minimumf d (minimumf (up d) (down d)))

/-- The recursion over the loaded rows. -/
def costs (ld : ℕ → Vec F S1x32x512 .f32) : ℕ → FVec F S32x512 .f32
  | 0 => theta (ld 0)
  | k + 1 => next (costs ld k) (ld (k + 1))

variable (x0 : Vec F S32x32x512 .f32)

/-- Row `k` of the block. -/
def row (k : ℕ) : Vec F S1x32x512 .f32 := fun i => x0 fun
  | ⟨0, _⟩ => (Fin.ofNat 32 k : Fin 32)
  | ⟨1, _⟩ => i 1
  | ⟨2, _⟩ => i 2

/-- A load of one row reads that row. -/
theorem ld_row (k : ℕ) (hk : k < 32) (inb : ∀ a, (![k, 0, 0] : Fin 3 → ℕ) a + S1x32x512.size a ≤ S32x32x512.size a) :
    View.ld x0 (Rect.unit (s := S32x32x512) ![k, 0, 0] S1x32x512.size inb) = row x0 k := by
  funext i
  unfold row
  show x0 _ = x0 _
  congr 1
  funext a
  apply Fin.ext
  match a with
  | ⟨0, _⟩ =>
    have h0 : (i 0).val = 0 := by have : (i 0).val < 1 := (i 0).isLt; omega
    show k + 1 * (i 0).val = k % 32
    rw [h0, Nat.mod_eq_of_lt hk]; rfl
  | ⟨1, _⟩ => show 0 + 1 * (i 1).val = (i 1).val; omega
  | ⟨2, _⟩ => show 0 + 1 * (i 2).val = (i 2).val; omega

/-! The named values of the body that hold a finished row, each by the one before it: the first is row 3, the second
   row 4, and from there each is two rows on. -/

theorem pay76 : k0_pay76 x0 = next (next (next (theta (View.ld x0 r0_0)) (View.ld x0 r0_1)) (View.ld x0 r0_2)) (View.ld x0 r0_3) := rfl
theorem pay77 : k0_pay77 x0 = next (k0_pay76 x0) (View.ld x0 r0_4) := rfl
theorem pay80 : k0_pay80 x0 = next (next (k0_pay77 x0) (View.ld x0 r0_5)) (View.ld x0 r0_6) := rfl
theorem pay85 : k0_pay85 x0 = next (next (k0_pay80 x0) (View.ld x0 r0_7)) (View.ld x0 r0_8) := rfl
theorem pay90 : k0_pay90 x0 = next (next (k0_pay85 x0) (View.ld x0 r0_9)) (View.ld x0 r0_10) := rfl
theorem pay96 : k0_pay96 x0 = next (next (k0_pay90 x0) (View.ld x0 r0_11)) (View.ld x0 r0_12) := rfl
theorem pay101 : k0_pay101 x0 = next (next (k0_pay96 x0) (View.ld x0 r0_13)) (View.ld x0 r0_14) := rfl
theorem pay107 : k0_pay107 x0 = next (next (k0_pay101 x0) (View.ld x0 r0_15)) (View.ld x0 r0_16) := rfl
theorem pay112 : k0_pay112 x0 = next (next (k0_pay107 x0) (View.ld x0 r0_17)) (View.ld x0 r0_18) := rfl
theorem pay117 : k0_pay117 x0 = next (next (k0_pay112 x0) (View.ld x0 r0_19)) (View.ld x0 r0_20) := rfl
theorem pay122 : k0_pay122 x0 = next (next (k0_pay117 x0) (View.ld x0 r0_21)) (View.ld x0 r0_22) := rfl
theorem pay127 : k0_pay127 x0 = next (next (k0_pay122 x0) (View.ld x0 r0_23)) (View.ld x0 r0_24) := rfl
theorem pay131 : k0_pay131 x0 = next (next (k0_pay127 x0) (View.ld x0 r0_25)) (View.ld x0 r0_26) := rfl
theorem pay134 : k0_pay134 x0 = next (next (k0_pay131 x0) (View.ld x0 r0_27)) (View.ld x0 r0_28) := rfl

/-- What the body stores: the least value of each column after the last row. -/
theorem out_eq : out0_1 x0 = multiReduction .minimumf [0] S512 (costs (row x0) 31) 0x7F800000#32 reduces_S32x512_S512 (.inl rfl) rfl := by
  have last : out0_1 x0 = View.canon [⟨r0_32, multiReduction .minimumf [0] S512
      (next (next (next (k0_pay134 x0) (View.ld x0 r0_29)) (View.ld x0 r0_30)) (View.ld x0 r0_31))
      0x7F800000#32 reduces_S32x512_S512 (.inl rfl) rfl⟩] := rfl
  rw [last, View.canon_unit_zero (by funext a; fin_cases a; rfl)]
  congr 1
  rw [pay134, pay131, pay127, pay122, pay117, pay112, pay107, pay101, pay96, pay90, pay85, pay80, pay77, pay76]
  simp only [r0_0, r0_1, r0_2, r0_3, r0_4, r0_5, r0_6, r0_7, r0_8, r0_9, r0_10, r0_11, r0_12, r0_13, r0_14, r0_15, r0_16, r0_17, r0_18, r0_19, r0_20, r0_21, r0_22, r0_23, r0_24, r0_25, r0_26, r0_27, r0_28, r0_29, r0_30, r0_31]
  simp only [ld_row x0 0 (by decide), ld_row x0 1 (by decide), ld_row x0 2 (by decide), ld_row x0 3 (by decide), ld_row x0 4 (by decide), ld_row x0 5 (by decide), ld_row x0 6 (by decide), ld_row x0 7 (by decide), ld_row x0 8 (by decide), ld_row x0 9 (by decide), ld_row x0 10 (by decide), ld_row x0 11 (by decide), ld_row x0 12 (by decide), ld_row x0 13 (by decide), ld_row x0 14 (by decide), ld_row x0 15 (by decide), ld_row x0 16 (by decide), ld_row x0 17 (by decide), ld_row x0 18 (by decide), ld_row x0 19 (by decide), ld_row x0 20 (by decide), ld_row x0 21 (by decide), ld_row x0 22 (by decide), ld_row x0 23 (by decide), ld_row x0 24 (by decide), ld_row x0 25 (by decide), ld_row x0 26 (by decide), ld_row x0 27 (by decide), ld_row x0 28 (by decide), ld_row x0 29 (by decide), ld_row x0 30 (by decide), ld_row x0 31 (by decide)]
  rfl

end Cert.KernelIdeal.Steps

end
-- ==== Proof.Path.lean ====
/-
  The cheapest path through a grid of costs, one row after another, on the extended reals: what both programs compute
  for one picture. A row has 32 places. A place of the next row is reached from the place before it, from the one to
  its left or from the one to its right.
-/
module

public import Mathlib.Data.EReal.Basic
public import Mathlib.Data.Finset.Fold
public import Idealize.ShloMosaic.PureOps.Ideal

@[expose] public section

noncomputable section

namespace Cert.Path

open Idealize.ShloMosaic

/-- The value to the left of a place, and the greatest value at the left end. -/
def left (d : Fin 32 → EReal) (j : Fin 32) : EReal :=
  if j.val < 1 then ⊤ else d ⟨j.val - 1, by omega⟩

/-- The value to the right of a place, and the greatest value at the right end. -/
def right (d : Fin 32 → EReal) (j : Fin 32) : EReal :=
  if h : j.val < 31 then d ⟨1 + j.val, by omega⟩ else ⊤

/-- One row: the place's own cost plus the least of the three values it is reached from. -/
def step (θ d : Fin 32 → EReal) (j : Fin 32) : EReal := θ j + min (d j) (min (left d j) (right d j))

/-- The least cost of reaching each place of row `k`. -/
def cost (θ : ℕ → Fin 32 → EReal) : ℕ → Fin 32 → EReal
  | 0 => θ 0
  | k + 1 => step (θ (k + 1)) (cost θ k)

/-- The least value of a row. -/
def least (d : Fin 32 → EReal) : EReal := (Finset.univ : Finset (Fin 32)).fold min ⊤ d

/-- The word of positive infinity is the greatest extended real. -/
theorem ofBits_inf : Ideal.ofBits .f32 0x7F800000#32 = ⊤ := by
  simp [Ideal.ofBits, Ideal.ieee]

/-- The word of one is one. -/
theorem ofBits_one : Ideal.ofBits .f32 0x3F800000#32 = 1 := by
  simp [Ideal.ofBits, Ideal.ieee, -EReal.coe_mul]; norm_num

/-- The word of zero is zero. -/
theorem ofBits_zero : Ideal.ofBits .f32 0x00000000#32 = 0 := by
  simp [Ideal.ofBits, Ideal.ieee]

end Cert.Path

end
-- ==== Proof.Softplus.lean ====
/-
  The scalar function of the kernel and of the reference: `log (1 + e^x)` in the form that does not overflow, on the
  extended reals. The kernel takes the exponential and the logarithm through base two, with three named constants
  between; the reference takes the natural ones. Both are the one function `softplus` below.
-/
module

public import Idealize.ShloMosaic.PureOps.Ideal

@[expose] public section

noncomputable section

namespace Cert.Path

open Idealize.ShloMosaic

/-- `max x 0 + log (1 + e^(-|x|))` on the extended reals. -/
def softplus (x : EReal) : EReal := max x 0 + Ideal.log (1 + Ideal.exp (-(max x (-x))))

/-- A power of two whose exponent is a real divided by `log 2` is the exponential of that real. -/
theorem two_rpow_div_log (r : ℝ) : Real.rpow 2 (r * -(Real.log 2)⁻¹) = Real.exp (-r) := by
  have h2 : Real.log 2 ≠ 0 := (Real.log_pos (by norm_num)).ne'
  show (2 : ℝ) ^ (r * -(Real.log 2)⁻¹) = _
  rw [Real.rpow_def_of_pos (by norm_num)]
  congr 1
  field_simp

/-- The exponential through base two: multiplying by `-1 / log 2` first, at every extended real that is not negative. -/
theorem exp2_scaled (y : EReal) (hy : 0 ≤ y) :
    Ideal.exp2 (y * ((-((Real.log 2)⁻¹) : ℝ) : EReal)) = Ideal.exp (-y) := by
  have hneg : -((Real.log 2)⁻¹) < 0 := neg_lt_zero.mpr (inv_pos.mpr (Real.log_pos (by norm_num)))
  induction y with
  | bot => exact absurd hy (by simp)
  | top => rw [EReal.top_mul_coe_of_neg hneg, EReal.neg_top]; rfl
  | coe r =>
    rw [← EReal.coe_mul, ← EReal.coe_neg, Ideal.exp2_coe, Ideal.exp_coe, two_rpow_div_log]

/-- Multiplying by `1 / log 2` and then by `log 2` changes no extended real. -/
theorem scale_back (y : EReal) : y * (((Real.log 2)⁻¹ : ℝ) : EReal) * ((Real.log 2 : ℝ) : EReal) = y := by
  have h2 : Real.log 2 ≠ 0 := (Real.log_pos (by norm_num)).ne'
  rw [mul_assoc, ← EReal.coe_mul, inv_mul_cancel₀ h2, EReal.coe_one, mul_one]

/-- An absolute value is not negative. -/
theorem abs_nonneg' (x : EReal) : 0 ≤ max x (-x) := by
  rcases le_total 0 x with h | h
  · exact le_max_of_le_left h
  · exact le_max_of_le_right (by simpa using EReal.neg_le_neg_iff.mpr h)

/-- The kernel's form, through base two, is `softplus`. -/
theorem kernel_form (x : EReal) :
    max x 0 + Ideal.log (1 + Ideal.exp2 (max x (-x) * ((-((Real.log 2)⁻¹) : ℝ) : EReal)))
        * (((Real.log 2)⁻¹ : ℝ) : EReal) * ((Real.log 2 : ℝ) : EReal) = softplus x := by
  rw [scale_back, exp2_scaled _ (abs_nonneg' x), softplus]

/-- The reference's form is `softplus`: its comparison of a value with itself never finds a difference, and its
    subtraction of zero changes nothing. -/
theorem reference_form (x : EReal) :
    (max x 0 + Ideal.log1p (Ideal.exp (-(max (x - 0) (-(x - 0)))))) = softplus x := by
  rw [sub_zero, softplus, Ideal.log1p]

end Cert.Path

end
-- ==== Proof.Block.lean ====
/-
  The kernel's row loop, read at one place of one picture of the block, on the extended reals: a step of the vectors is
  a step of the cheapest path, and what the body stores for a picture is the least cost of its last row.
-/
module

public import proofs.«01_k».proof.Proof.Steps
public import proofs.«01_k».proof.Proof.Path
public import proofs.«01_k».proof.Proof.Softplus
public import Idealize.ShloMosaic.Lib.ValueIdx
public import Idealize.ShloMosaic.Lib.ValueLayout
public import Idealize.ShloMosaic.Lib.Pointwise.SelectCore
public import Idealize.ShloMosaic.PureOps.Ideal.Laws
public import Idealize.ShloMosaic.PureOps.IdealRules

@[expose] public section

noncomputable section

namespace Cert.KernelIdeal.Block

open Idealize.ShloMosaic hiding ix1 ix2 ix3 addf_apply mulf_apply maximumf_apply minimumf_apply
open Idealize.SL.Sem Idealize.ShloMosaic.ValueIdx
open Cert.KernelIdeal Cert.KernelIdeal.Gen Cert.KernelIdeal.Steps Cert.Path

/-- Every place of a row of infinities is the greatest value. -/
theorem inf_apply (i : S1x512.Idx) : inf (F := Ideal) i = (⊤ : EReal) := ofBits_inf

/-- The row moved down reads the place to the left. -/
theorem up_apply (d : FVec Ideal S32x512 .f32) (j : Fin 32) (b : Fin 512) :
    up (F := Ideal) d (ix2 j b) = left (fun j => d (ix2 j b)) j := by
  unfold up left
  rw [concatenate_pair_apply]
  by_cases h : j.val < 1
  · rw [if_pos h]; refine (dif_pos h).trans ?_
    exact inf_apply _
  · rw [if_neg h]; refine (dif_neg h).trans ?_
    refine extractStridedSlice_apply _ _ _ _ _ fun a => ?_
    match a with
    | ⟨0, _⟩ => exact (Nat.zero_add _).symm
    | ⟨1, _⟩ => exact (Nat.zero_add _).symm

/-- The row moved up reads the place to the right. -/
theorem down_apply (d : FVec Ideal S32x512 .f32) (j : Fin 32) (b : Fin 512) :
    down (F := Ideal) d (ix2 j b) = right (fun j => d (ix2 j b)) j := by
  unfold down right
  rw [concatenate_pair_apply]
  by_cases h : j.val < 31
  · rw [dif_pos h]; refine (dif_pos h).trans ?_
    refine extractStridedSlice_apply _ _ _ _ _ fun a => ?_
    match a with
    | ⟨0, _⟩ => rfl
    | ⟨1, _⟩ => exact (Nat.zero_add _).symm
  · rw [dif_neg h]; refine (dif_neg h).trans ?_
    exact inf_apply _

/-- The three named constants. -/
theorem neg_log2e : Named.named (F := Ideal) (φ := .f32) κ "neg_log2e" 0xBFB8AA3B#32 = ((-((Real.log 2)⁻¹) : ℝ) : EReal) :=
  IdealRules.named_const.ideal_named_scalar _ _ _ _ rfl

theorem log2e : Named.named (F := Ideal) (φ := .f32) κ "log2e" 0x3FB8AA3B#32 = (((Real.log 2)⁻¹ : ℝ) : EReal) :=
  IdealRules.named_const.ideal_named_scalar _ _ _ _ rfl

theorem ln2 : Named.named (F := Ideal) (φ := .f32) κ "ln2" 0x3F317218#32 = ((Real.log 2 : ℝ) : EReal) :=
  IdealRules.named_const.ideal_named_scalar _ _ _ _ rfl

/-- A loaded row's costs are the softplus of its values. -/
theorem theta_apply (v : Vec Ideal S1x32x512 .f32) (j : Fin 32) (b : Fin 512) :
    theta (F := Ideal) v (ix2 j b) = softplus (v (ix3 0 j b)) := by
  unfold theta
  rw [addf_apply, maximumf_apply, mulf_apply, mulf_apply, broadcast_apply, broadcast_apply, broadcast_apply, log2e, ln2]
  show max (shapeCast S32x512 v shapeCasts_S1x32x512_S32x512 (ix2 j b)) (Ideal.ofBits .f32 0x00000000#32)
    + Ideal.log (Ideal.ofBits .f32 0x3F800000#32 + Ideal.exp2
      (max (shapeCast S32x512 v shapeCasts_S1x32x512_S32x512 (ix2 j b)) (-(shapeCast S32x512 v shapeCasts_S1x32x512_S32x512 (ix2 j b)))
        * Named.named (F := Ideal) (φ := .f32) κ "neg_log2e" 0xBFB8AA3B#32)) * _ * _ = _
  rw [shapeCast_1ab_ab_apply, ofBits_zero, ofBits_one, neg_log2e]
  exact kernel_form _

/-- A step of the vectors is a step of the cheapest path. -/
theorem next_apply (d : FVec Ideal S32x512 .f32) (v : Vec Ideal S1x32x512 .f32) (j : Fin 32) (b : Fin 512) :
    next (F := Ideal) d v (ix2 j b) = step (fun j => softplus (v (ix3 0 j b))) (fun j => d (ix2 j b)) j := by
  unfold next step
  rw [addf_apply, minimumf_apply, minimumf_apply, theta_apply, up_apply, down_apply]

/-- After any number of rows the vectors hold the cheapest path's costs. -/
theorem costs_apply (x0 : Vec Ideal S32x32x512 .f32) (k : ℕ) (j : Fin 32) (b : Fin 512) :
    costs (F := Ideal) (row x0) k (ix2 j b) = cost (fun i j => softplus (x0 (ix3 (Fin.ofNat 32 i) j b))) k j := by
  have hrow : ∀ i j, row x0 i (ix3 0 j b) = x0 (ix3 (Fin.ofNat 32 i) j b) := fun i j => by
    unfold row
    congr 1
    funext a
    match a with
    | ⟨0, _⟩ => rfl
    | ⟨1, _⟩ => rfl
    | ⟨2, _⟩ => rfl
  induction k generalizing j with
  | zero => show theta (F := Ideal) (row x0 0) (ix2 j b) = _; rw [theta_apply, hrow]; rfl
  | succ k ih =>
    show next (F := Ideal) (costs (row x0) k) (row x0 (k + 1)) (ix2 j b) = step _ _ _
    rw [next_apply]
    simp only [ih, hrow]

/-- What the body stores for a picture of the block is the least cost of its last row. -/
theorem out_apply (x0 : Vec Ideal S32x32x512 .f32) (b : Fin 512) :
    out0_1 (F := Ideal) x0 (ix1 b) = least (cost (fun i j => softplus (x0 (ix3 (Fin.ofNat 32 i) j b))) 31) := by
  rw [out_eq]
  refine (multiReduction_minimumf_eq_fold (costs (F := Ideal) (row x0) 31) _ _ _ _ _).trans ?_
  rw [Shape.Reduces.fold_filter_drop_single]
  unfold least
  rw [show FloatOps.ofBits (F := Ideal) .f32 0x7F800000#32 = (⊤ : EReal) from ofBits_inf]
  refine Finset.fold_congr fun j _ => ?_
  refine Eq.trans (congrArg (costs (F := Ideal) (row x0) 31) (funext fun a => ?_)) (costs_apply x0 31 j b)
  match a with
  | ⟨0, _⟩ => rfl
  | ⟨1, _⟩ => rfl

end Cert.KernelIdeal.Block

end
-- ==== Proof.KernelValue.lean ====
/-
  The kernel's run on the extended reals: its result holds, for every picture, the least cost of the picture's
  cheapest path.
-/
module

public import proofs.«01_k».proof.Proof.Block
public import Idealize.ShloMosaic.Lib.ValueIdx
public import Idealize.ShloMosaic.Lib.Pipeline.Value

@[expose] public section

noncomputable section

namespace Cert.KernelIdeal.Whole

open Idealize.ShloMosaic hiding ix1 ix2 ix3 eq_ix1
open Idealize.SL.Sem Idealize.ShloMosaic.TcCoe Idealize.ShloMosaic.ValueIdx
open Idealize.ShloMosaic.Pipeline (Dat)
open Cert.KernelIdeal Cert.KernelIdeal.Gen Cert.KernelIdeal.Steps Cert.Path

variable (m : (ℓ : Loc nD τ sig) → Buf (Elt Ideal) ℓ) (ρ : Dev nD → PrngReg)

/-- The least cost of the path through each picture: what the result is shown to hold. -/
def least_costs (x : FVec Ideal S16384x32x32 .f32) : FVec Ideal S16384 .f32 := fun n =>
  least (cost (fun i j => softplus (x (ix3 (n 0) (Fin.ofNat 32 i) j))) 31)

/-- The blocks' places: block `t` of the pictures and of the result is the `t`-th along the pictures. -/
theorem block_of : ∀ t : Fin grid0.N, cc0_transform_0 (grid0.coords t) 0 = 0 ∧ cc0_transform_0 (grid0.coords t) 1 = 0
    ∧ cc0_transform_0 (grid0.coords t) 2 = t.val ∧ cc0_transform_1 (grid0.coords t) 0 = t.val := by decide +kernel

/-- What the region finds in the transposed array. -/
theorem V_main_v0 (c : Dev nD) : V m c main_v0
    = transpose S32x32x16384 [1, 2, 0] (m ((c : Thread nD τ).loc main_arg0)) transposes_S16384x32x32_S32x32x16384_1_2_0 := by
  rfl

/-- A block of the transposed pictures, read at row, place and picture. -/
theorem iblk_apply (c : Dev nD) (t : Fin cfg0.N) (i j : Fin 32) (b : Fin 512) (n : Fin 16384) (hn : n.val = t.val * 512 + b.val) :
    iblk m c 0 t (ix3 i j b) = (m ((c : Thread nD τ).loc main_arg0) : FVec Ideal S16384x32x32 .f32) (ix3 n i j) := by
  obtain ⟨h0, h1, h2, _⟩ := block_of t
  show V m c main_v0 _ = _
  rw [V_main_v0]
  refine transpose_apply _ _ _ _ _ fun a => ?_
  match a with
  | ⟨0, _⟩ => show i.val = cc0_transform_0 (grid0.coords t) 0 * 32 + 1 * i.val; omega
  | ⟨1, _⟩ => show j.val = cc0_transform_0 (grid0.coords t) 1 * 32 + 1 * j.val; omega
  | ⟨2, _⟩ => show n.val = cc0_transform_0 (grid0.coords t) 2 * 512 + 1 * b.val; omega

/-- What point `t` writes back is block `t` of the least costs. -/
theorem flushed_eq (c : Dev nD) (t : Fin cfg0.N) :
    (dats m 0 c).flushed 1 t = (win0_1.blk t).view.read (Elt Ideal) (least_costs (m ((c : Thread nD τ).loc main_arg0))) := by
  show (cfg0.win 1).cut (grid0.coords t) ((dats m 0 c).after 1 t) = _
  rw [after0_1]
  funext y
  obtain ⟨b, rfl⟩ : ∃ b : Fin 512, y = (ix1 b : S512.Idx) := ⟨y 0, eq_ix1 y⟩
  obtain ⟨_, _, _, h⟩ := block_of t
  have hN : cfg0.N = 32 := N_0
  have hn : t.val * 512 + b.val < 16384 := by have := t.isLt; have := b.isLt; omega
  refine (Block.out_apply (iblk m c 0 t) b).trans ?_
  simp only [iblk_apply m c t _ _ b ⟨_, hn⟩ rfl]
  show least_costs (m ((c : Thread nD τ).loc main_arg0)) (ix1 ⟨_, hn⟩) = least_costs (m ((c : Thread nD τ).loc main_arg0)) _
  congr 1
  funext a
  match a with
  | ⟨0, _⟩ =>
    apply Fin.ext
    show t.val * 512 + b.val = cc0_transform_1 (grid0.coords t) 0 * 512 + 1 * b.val
    omega

/-- The result's blocks tile its array. -/
theorem cover (i : S16384.Idx) : ∃ t : Fin cfg0.N, (cfg0.win 1).flush t = true ∧ i ∈ ((cfg0.win 1).blk t).view.set := by
  have h0 : (i 0 : ℕ) < 16384 := (i 0).isLt
  have hN : cfg0.N = 32 := N_0
  obtain ⟨t, ht⟩ : ∃ t : Fin cfg0.N, t.val = (i 0 : ℕ) / 512 := ⟨⟨(i 0 : ℕ) / 512, by omega⟩, rfl⟩
  refine ⟨t, flush0_1 _, ?_⟩
  obtain ⟨_, _, _, h⟩ := block_of t
  show i ∈ ((View.whole main_v1).slice (win0_1.rect t)).set
  rw [View.set_slice_whole, Rect.mem_set_unit]
  intro a
  match a with
  | ⟨0, _⟩ =>
    show cc0_transform_1 (grid0.coords t) 0 * 512 ≤ (i 0 : ℕ) ∧ (i 0 : ℕ) < cc0_transform_1 (grid0.coords t) 0 * 512 + 512
    omega

/-- So the result array ends at the least costs. -/
theorem final (c : Dev nD) : (dats m 0 c).arrAt 1 cfg0.N = least_costs (m ((c : Thread nD τ).loc main_arg0)) :=
  (dats m 0 c).arrAt_eq_of_cover 1 (least_costs (m ((c : Thread nD τ).loc main_arg0))) (fun t _ => flushed_eq m c t) cover

/-- The kernel's run: the result at the least costs, the argument unchanged. -/
theorem run : θ_run defs (onTc (τ := τ) (main (F := Ideal))) ⟨m, fun _ => 0, ρ⟩ fun r => ∀ c : Dev nD,
      r.2.mem ((c.tc : Thread nD τ).loc main_v1) = least_costs (m ((c.tc : Thread nD τ).loc main_arg0))
      ∧ r.2.mem ((c.tc : Thread nD τ).loc main_arg0) = m ((c.tc : Thread nD τ).loc main_arg0) :=
  (θ_run defs _ _).mono (fun _ h c => ⟨((h.1 c).1 1).trans (final m c), h.2 c⟩)
    (θ_run_and (run_main m ρ) (unchanged m ρ))

end Cert.KernelIdeal.Whole

end
-- ==== Proof.ReferenceValue.lean ====
/-
  The reference's run on the extended reals: before its loop the costs and the first row, after each trip one more row
  of the cheapest path, and after the loop the least value of the last row.
-/
module

public import proofs.«01_k».proof.Proof.Gen.ReferenceIdeal.Run
public import proofs.«01_k».proof.Proof.Path
public import proofs.«01_k».proof.Proof.Softplus
public import Idealize.ShloMosaic.Lib.ValueIdx
public import Idealize.ShloMosaic.Lib.ValueLayout
public import Idealize.ShloMosaic.Lib.Pointwise.SelectCore
public import Idealize.ShloMosaic.Lib.Pointwise.ShapeOpsCore
public import Idealize.ShloMosaic.Lib.StableHlo.RunRead
public import Idealize.ShloMosaic.PureOps.Ideal.Laws

@[expose] public section

noncomputable section

namespace Cert.ReferenceIdeal.Rows

open Idealize.ShloMosaic hiding ix1 ix2 ix3 eq_ix1 addf_apply mulf_apply maximumf_apply minimumf_apply
open Idealize.SL.Sem Idealize.ShloMosaic.TcCoe Idealize.ShloMosaic.Tactic Idealize.ShloMosaic.ValueIdx
open Idealize.ShloMosaic.StableHlo
open Cert.ReferenceIdeal Cert.ReferenceIdeal.Gen Cert.ReferenceIdeal.Value Cert.Path

/-! ## The softplus before the loop -/

section AnyFloats
variable {F : FTy → Type} [FloatOps F]

/-- The zeros that the softplus compares and adds. -/
def zeros : FVec F S16384x32x32 .f32 := broadcastInDim S16384x32x32 ![] bcast_S_S16384x32x32 (constant S_ .f32 0x00000000#32)

/-- The reference's softplus of all pictures. -/
def soft (x : FVec F S16384x32x32 .f32) : FVec F S16384x32x32 .f32 :=
  select (cmpf .une (subf x zeros) (subf x zeros)) (addf x zeros)
    (addf (maximumf x zeros) (Host.log1p (Host.exp (Host.negf (Host.absf (subf x zeros))))))

/-- The first row of the costs. -/
def first (x : FVec F S16384x32x32 .f32) : FVec F S16384x32 .f32 :=
  shapeCast S16384x32 (extractStridedSlice S16384x1x32 ![0, 0, 0] (soft x) slices_S16384x32x32_S16384x1x32_0_0_0)
    shapeCasts_S16384x1x32_S16384x32

/-- The other rows of the costs, the row first. -/
def rest (x : FVec F S16384x32x32 .f32) : FVec F S31x16384x32 .f32 :=
  transpose S31x16384x32 [1, 0, 2] (extractStridedSlice S16384x31x32 ![0, 1, 0] (soft x) slices_S16384x32x32_S16384x31x32_0_1_0)
    transposes_S16384x31x32_S31x16384x32_1_0_2

variable (m : (ℓ : Loc nD τ sig) → Buf (Elt F) ℓ) (c : Dev nD)

/-- The loop starts with the other rows, -/
theorem entry_rest : entryContents preI m c (Proc.devRef .tc main_v5_0) = rest (m ((c.tc : Thread nD τ).loc main_arg0)) := by
  simp only [entryContents, afterL_cons, afterL_nil]
  after_reads_simp
  rfl

/-- with the first row as the running costs. -/
theorem entry_first : entryContents preI m c (Proc.devRef .tc main_v5_2) = first (m ((c.tc : Thread nD τ).loc main_arg0)) := by
  simp only [entryContents, afterL_cons, afterL_nil]
  after_reads_simp
  rfl

end AnyFloats

/-- The reference's softplus, read at a place. -/
theorem soft_apply (x : FVec Ideal S16384x32x32 .f32) (i : S16384x32x32.Idx) : soft (F := Ideal) x i = softplus (x i) := by
  have hz : ∀ i, zeros (F := Ideal) i = (0 : EReal) := fun _ => ofBits_zero
  show Scalar.select (Ideal.cmp .une (x i - zeros (F := Ideal) i) (x i - zeros (F := Ideal) i)) (x i + zeros (F := Ideal) i)
    (max (x i) (zeros (F := Ideal) i)
      + Ideal.log1p (Ideal.exp (-(max (x i - zeros (F := Ideal) i) (-(x i - zeros (F := Ideal) i)))))) = _
  rw [hz, show Ideal.cmp .une (x i - 0) (x i - 0) = 0#1 by simp [Ideal.cmp], select_zero]
  exact reference_form _

/-- The first row, read at a place. -/
theorem first_apply (x : FVec Ideal S16384x32x32 .f32) (n : Fin 16384) (j : Fin 32) :
    first (F := Ideal) x (ix2 n j) = softplus (x (ix3 n 0 j)) := by
  unfold first
  rw [shapeCast_apply _ _ _ (ix3 n (0 : Fin 1) j : S16384x1x32.Idx) (by
    rw [Shape.rowMajor_val_three, Shape.rowMajor_val_two]
    show (n.val * 1 + 0) * 32 + j.val = n.val * 32 + j.val
    omega)]
  refine (extractStridedSlice_apply _ _ _ _ (ix3 n 0 j : S16384x32x32.Idx) fun a => ?_).trans (soft_apply x _)
  match a with
  | ⟨0, _⟩ => exact (Nat.zero_add _).symm
  | ⟨1, _⟩ => rfl
  | ⟨2, _⟩ => exact (Nat.zero_add _).symm

/-- The other rows, read at a place. -/
theorem rest_apply (x : FVec Ideal S16384x32x32 .f32) (k : Fin 31) (n : Fin 16384) (j : Fin 32) :
    rest (F := Ideal) x (ix3 k n j) = softplus (x (ix3 n (Fin.ofNat 32 (k.val + 1)) j)) := by
  unfold rest
  rw [transpose_apply _ _ _ _ (ix3 n k j : S16384x31x32.Idx) (fun a => match a with
    | ⟨0, _⟩ => rfl
    | ⟨1, _⟩ => rfl
    | ⟨2, _⟩ => rfl)]
  refine (extractStridedSlice_apply _ _ _ _ (ix3 n (Fin.ofNat 32 (k.val + 1)) j : S16384x32x32.Idx) fun a => ?_).trans (soft_apply x _)
  match a with
  | ⟨0, _⟩ => exact (Nat.zero_add _).symm
  | ⟨1, _⟩ =>
    show (k.val + 1) % 32 = 1 + k.val
    omega
  | ⟨2, _⟩ => exact (Nat.zero_add _).symm

/-! ## One trip -/

/-- A column of infinities. -/
theorem inf_apply (V0 : Valuation τ sig (Elt Ideal)) (i : S16384x1.Idx) :
    (res_main_while0b_v9 V0 : FVec Ideal S16384x1 .f32) i = (⊤ : EReal) := ofBits_inf

/-- The row moved right reads the place to the left. -/
theorem left_apply (V0 : Valuation τ sig (Elt Ideal)) (d : FVec Ideal S16384x32 .f32) (n : Fin 16384) (j : Fin 32) :
    concatenate S16384x32 1 [⟨S16384x1, (res_main_while0b_v9 V0 : FVec Ideal S16384x1 .f32)⟩,
      ⟨S16384x31, extractStridedSlice S16384x31 ![0, 0] d slices_S16384x32_S16384x31_0_0⟩]
      concatenates_S16384x1_S16384x31_S16384x32_d1 (ix2 n j) = left (fun j => d (ix2 n j)) j := by
  unfold left
  rw [concatenate_pair_apply]
  by_cases h : j.val < 1
  · rw [if_pos h]; refine (dif_pos h).trans ?_
    exact inf_apply _ _
  · rw [if_neg h]; refine (dif_neg h).trans ?_
    refine extractStridedSlice_apply _ _ _ _ _ fun a => ?_
    match a with
    | ⟨0, _⟩ => exact (Nat.zero_add _).symm
    | ⟨1, _⟩ => exact (Nat.zero_add _).symm

/-- The row moved left reads the place to the right. -/
theorem right_apply (V0 : Valuation τ sig (Elt Ideal)) (d : FVec Ideal S16384x32 .f32) (n : Fin 16384) (j : Fin 32) :
    concatenate S16384x32 1 [⟨S16384x31, extractStridedSlice S16384x31 ![0, 1] d slices_S16384x32_S16384x31_0_1⟩,
      ⟨S16384x1, (res_main_while0b_v9 V0 : FVec Ideal S16384x1 .f32)⟩]
      concatenates_S16384x31_S16384x1_S16384x32_d1 (ix2 n j) = right (fun j => d (ix2 n j)) j := by
  unfold right
  rw [concatenate_pair_apply]
  by_cases h : j.val < 31
  · rw [dif_pos h]; refine (dif_pos h).trans ?_
    refine extractStridedSlice_apply _ _ _ _ _ fun a => ?_
    match a with
    | ⟨0, _⟩ => exact (Nat.zero_add _).symm
    | ⟨1, _⟩ => rfl
  · rw [dif_neg h]; refine (dif_neg h).trans ?_
    exact inf_apply _ _

/-- The row of the costs that a trip with counter `k` takes. -/
theorem taken_apply (x : FVec Ideal S31x16384x32 .f32) (ctr : IVec S_ 32) (k : Fin 31) (hk : ctr = fun _ => BitVec.ofNat 32 k.val)
    (n : Fin 16384) (j : Fin 32) :
    shapeCast S16384x32 (Host.dynamicSlice S1x16384x32 x
      (fun a => ((![ctr, constantI S_ 32 0#32, constantI S_ 32 0#32] : Fin 3 → IVec S_ 32) a (Shape.Idx.first h_S_)).toInt)
      sliceFits_S31x16384x32_S1x16384x32) shapeCasts_S1x16384x32_S16384x32 (ix2 n j) = x (ix3 k n j) := by
  have toInt : ∀ k : Fin 31, (BitVec.ofNat 32 k.val).toInt = (k.val : ℤ) := by decide
  rw [shapeCast_1ab_ab_apply, Host.dynamicSlice_apply]
  refine congrArg x (funext fun a => Fin.ext ?_)
  match a with
  | ⟨0, _⟩ =>
    show Host.clampedStart _ _ _ _ 0 + 0 = k.val
    rw [Host.clampedStart_of_le _ _ _ k.val]
    · rfl
    · show (ctr _).toInt = _
      rw [hk]; exact toInt k
    · show k.val + 1 ≤ 31
      omega
  | ⟨1, _⟩ =>
    show Host.clampedStart _ _ _ _ 1 + n.val = n.val
    rw [Host.clampedStart_of_le _ _ _ 0]
    · omega
    · rfl
    · show 0 + 16384 ≤ 16384
      omega
  | ⟨2, _⟩ =>
    show Host.clampedStart _ _ _ _ 2 + j.val = j.val
    rw [Host.clampedStart_of_le _ _ _ 0]
    · omega
    · rfl
    · show 0 + 32 ≤ 32
      omega

/-- One trip is one row of the cheapest path. -/
theorem trip_apply (V0 : Valuation τ sig (Elt Ideal)) (k : Fin 31)
    (hk : (V0 (Proc.devRef .tc main_v5_1) : IVec S_ 32) = fun _ => BitVec.ofNat 32 k.val) (n : Fin 16384) (j : Fin 32) :
    (step_main_v5_2 V0 : FVec Ideal S16384x32 .f32) (ix2 n j)
      = step (fun j => (V0 (Proc.devRef .tc main_v5_0) : FVec Ideal S31x16384x32 .f32) (ix3 k n j))
          (fun j => (V0 (Proc.devRef .tc main_v5_2) : FVec Ideal S16384x32 .f32) (ix2 n j)) j := by
  unfold step_main_v5_2 step
  refine congrArg₂ (· + ·) (taken_apply (V0 (Proc.devRef .tc main_v5_0)) _ k hk n j) ((min_comm _ _).trans ?_)
  exact congrArg (min _) (congrArg₂ min (left_apply V0 (V0 (Proc.devRef .tc main_v5_2)) n j) (right_apply V0 (V0 (Proc.devRef .tc main_v5_2)) n j))

/-! ## The loop and what comes after it -/

variable (m : (ℓ : Loc nD τ sig) → Buf (Elt Ideal) ℓ) (ρ : Dev nD → PrngReg) (c : Dev nD)

/-- The costs of one picture. -/
def theta (x : FVec Ideal S16384x32x32 .f32) (n : Fin 16384) (i : ℕ) (j : Fin 32) : EReal := softplus (x (ix3 n (Fin.ofNat 32 i) j))

/-- After `k` trips the counter is `k`, the rows are as they were, and the running costs are those of row `k`. -/
theorem after_trips (k : ℕ) (hk : k ≤ 31) :
    ((STEP^[k] (entryContents preI m c)) (Proc.devRef .tc main_v5_0) : FVec Ideal S31x16384x32 .f32)
        = rest (F := Ideal) (m ((c.tc : Thread nD τ).loc main_arg0))
      ∧ ((STEP^[k] (entryContents preI m c)) (Proc.devRef .tc main_v5_1) : IVec S_ 32) = (fun _ => BitVec.ofNat 32 k)
      ∧ ∀ (n : Fin 16384) (j : Fin 32),
        ((STEP^[k] (entryContents preI m c)) (Proc.devRef .tc main_v5_2) : FVec Ideal S16384x32 .f32) (ix2 n j)
          = cost (theta (m ((c.tc : Thread nD τ).loc main_arg0)) n) k j := by
  induction k with
  | zero =>
    refine ⟨entry_rest m c, ctr_entry m c, fun n j => ?_⟩
    rw [Function.iterate_zero, id_eq, entry_first]
    exact first_apply _ n j
  | succ k ih =>
    obtain ⟨h0, h1, h2⟩ := ih (by omega)
    rw [Function.iterate_succ_apply']
    refine ⟨(STEP_main_v5_0 _).trans h0, (STEP_main_v5_1 _).trans ?_, fun n j => ?_⟩
    · unfold step_main_v5_1
      rw [h1]
      funext _
      show BitVec.ofNat 32 k + 1#32 = _
      rw [BitVec.ofNat_add]
    · rw [STEP_main_v5_2]
      refine (trip_apply _ ⟨k, by omega⟩ h1 n j).trans ?_
      rw [h0]
      simp only [h2, rest_apply]
      rfl

/-- The reduction along the places is the least value of the row. -/
theorem reduce_apply (d : FVec Ideal S16384x32 .f32) (n : Fin 16384) :
    Host.reduce (FloatOps.minimumf (F := Ideal) (φ := .f32)) d (constant S_ .f32 0x7F800000#32) reducesTo_S16384x32_S16384_d1 h_S_ (ix1 n)
      = least (fun j => d (ix2 n j)) := by
  rw [Host.reduce_eq_fold_single _ _ _ _ (by decide : S16384x32.Reduces [1] S16384)]
  unfold least
  rw [show constant (F := Ideal) S_ .f32 0x7F800000#32 (Shape.Idx.first h_S_) = (⊤ : EReal) from ofBits_inf]
  refine Finset.fold_congr fun j _ => congrArg d (funext fun a => ?_)
  match a with
  | ⟨0, _⟩ => rfl
  | ⟨1, _⟩ => rfl

/-- The reference's result at a picture: the least cost of the last row. -/
theorem out_apply (n : Fin 16384) :
    (out_main_v6 (STEP^[31] (entryContents preI m c)) : FVec Ideal S16384 .f32) (ix1 n)
      = least (cost (theta (m ((c.tc : Thread nD τ).loc main_arg0)) n) 31) :=
  (reduce_apply _ n).trans (congrArg least (funext fun j => (after_trips m c 31 le_rfl).2.2 n j))

end Cert.ReferenceIdeal.Rows

end
-- ==== Proof.Claims.lean ====
/-
  The claims about the kernel, its ideal form and the reference.
-/
module

public import proofs.«01_k».proof.Defs
public import proofs.«01_k».proof.Proof.Gen.Kernel.Frame
public import proofs.«01_k».proof.Proof.KernelValue
public import proofs.«01_k».proof.Proof.ReferenceValue
public import Idealize.ShloMosaic.Lib.Quiescent
public import Idealize.ShloMosaic.PureOps.IdealRules

@[expose] public section

noncomputable section

namespace Cert.Proof.Parts

open Idealize.ShloMosaic Idealize.SL.Sem Idealize.ShloMosaic.TcCoe

/-- The kernel runs, leaves its argument and ends with its counters at zero. -/
theorem frame_kernel : Cert.quiescent_Kernel := fun m ρ _ => Cert.Kernel.Gen.frame m ρ

/-- So does its ideal form, -/
theorem frame_ideal : Cert.quiescent_KernelIdeal := fun m ρ _ => Cert.KernelIdeal.Gen.frame m ρ

/-- and the reference, which has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The three constants name what their words round. -/
theorem preserves : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl,
    IdealRules.named_const.statement Cert.KernelIdeal.κ "ln2" .f32 0x3F317218#32 _ rfl⟩

/-- On the extended reals the reference's result is the least cost of every picture's cheapest path. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.out_main_v6
        (Cert.ReferenceIdeal.Value.STEP^[31] (StableHlo.entryContents Cert.ReferenceIdeal.Value.preI m c))
      = Cert.KernelIdeal.Whole.least_costs (m ((c.tc : Thread Cert.ReferenceIdeal.nD Cert.ReferenceIdeal.τ).loc Cert.ReferenceIdeal.main_arg0)) := by
  funext i
  obtain ⟨n, rfl⟩ : ∃ n : Fin 16384, i = (ValueIdx.ix1 n : Cert.ReferenceIdeal.S16384.Idx) := ⟨i 0, ValueIdx.eq_ix1 i⟩
  exact Cert.ReferenceIdeal.Rows.out_apply m c n

/-- On the extended reals the ideal kernel and the reference end with the same result. -/
theorem algebraic : Cert.algebraic_KernelIdeal_ReferenceIdeal := by
  intro m ρ m' ρ' _ hagree
  refine ⟨fun c => Cert.KernelIdeal.Whole.least_costs
    (m ((c.tc : Thread Cert.KernelIdeal.nD Cert.KernelIdeal.τ).loc Cert.KernelIdeal.main_arg0)), Cert.KernelIdeal.Whole.run m ρ, ?_⟩
  refine (θ_run Cert.ReferenceIdeal.defs _ _).mono (fun _ h c => ⟨(h c).1.trans ?_, (h c).2⟩) (Cert.ReferenceIdeal.Value.run m' ρ')
  exact (reference_value m' c).trans (congrArg Cert.KernelIdeal.Whole.least_costs (hagree c))

end Cert.Proof.Parts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that is claimed: the three frames, the named constants, and the equality of the two results. -/
theorem claim : Cert.Claim :=
  ⟨Cert.Kernel.Gen.facts, Cert.KernelIdeal.Gen.facts, Cert.ReferenceIdeal.Gen.facts,
    Parts.frame_kernel, Parts.frame_ideal, Parts.frame_reference, Parts.preserves, Parts.algebraic⟩

end Cert.Proof

end
